-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S36 : Shape := ⟨1, ![36]⟩
abbrev S1x1 : Shape := ⟨2, ![1, 1]⟩
abbrev S4096x1 : Shape := ⟨2, ![4096, 1]⟩
abbrev S1x4096 : Shape := ⟨2, ![1, 4096]⟩
abbrev S4096 : Shape := ⟨1, ![4096]⟩
abbrev S1 : Shape := ⟨1, ![1]⟩
abbrev S512x128 : Shape := ⟨2, ![512, 128]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1x512x512 : Shape := ⟨3, ![1, 512, 512]⟩
abbrev S1x1x1 : Shape := ⟨3, ![1, 1, 1]⟩
abbrev S8x512 : Shape := ⟨2, ![8, 512]⟩
abbrev S1x8x512 : Shape := ⟨3, ![1, 8, 512]⟩
abbrev S_ : Shape := ⟨0, ![]⟩

abbrev nBuf : Space → Nat
  | .hbm => 3
  | .vmem => 6
  | .smem => 2
  | _ => 0

abbrev bufTy : (tb : Table) → Fin (tcTables nBuf tb) → BufTy
  | .hbm, ⟨0, _⟩ => ⟨S4096x128, .f32⟩
  | .hbm, ⟨1, _⟩ => ⟨S1x1, .f32⟩
  | .hbm, ⟨2, _⟩ => ⟨S_, .f32⟩
  | .local _ .vmem, ⟨0, _⟩ => ⟨S4096x128, .f32⟩
  | .local _ .vmem, ⟨1, _⟩ => ⟨S1x1, .f32⟩
  | .local _ .vmem, ⟨2, _⟩ => ⟨S4096x1, .f32⟩
  | .local _ .vmem, ⟨3, _⟩ => ⟨S1x4096, .f32⟩
  | .local _ .vmem, ⟨4, _⟩ => ⟨S4096x1, .f32⟩
  | .local _ .vmem, ⟨5, _⟩ => ⟨S1x4096, .f32⟩
  | .local _ .smem, ⟨0, _⟩ => ⟨S36, .i32⟩
  | .local _ .smem, ⟨1, _⟩ => ⟨S36, .i32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c36_i32 : BitVec 32 := 36#32
  let v19 : BitVec 32 := Scalar.addi c0_i32 c36_i32
  let c1_i32 : BitVec 32 := 1#32
  ⟨c0_i32, v19, c1_i32⟩
def k0_off1 (k0_t1 : Fin k0_t1_loop.trips) : Fin 1 → Nat :=
  let c0_i32 : BitVec 32 := 0#32
  let c1_i32 : BitVec 32 := 1#32
  let arg9 : BitVec 32 := Scf.iv c0_i32 c1_i32 k0_t1
  let v38 : Index := Scalar.indexCast arg9
  ![v38.toNat]
def k0_off2 (v39 : BitVec 32) : Fin 2 → Nat :=
  let c512_i32 : BitVec 32 := 512#32
  let v42 : BitVec 32 := Scalar.muli v39 c512_i32
  let v43 : Index := Scalar.indexCast v42
  let c0_22 : Index := 0#32
  ![v43.toNat, 0]

def k0_off3 (v41 : BitVec 32) : Fin 2 → Nat :=
  let c512_i32_23 : BitVec 32 := 512#32
  let v45 : BitVec 32 := Scalar.muli v41 c512_i32_23
  let v46 : Index := Scalar.indexCast v45
  let c0_24 : Index := 0#32
  ![v46.toNat, 0]

def k0_off4 (v39 : BitVec 32) : Fin 2 → Nat :=
  let c512_i32_25 : BitVec 32 := 512#32
  let v48 : BitVec 32 := Scalar.muli v39 c512_i32_25
  let v49 : Index := Scalar.indexCast v48
  let c0_26 : Index := 0#32
  ![v49.toNat, 0]

def k0_chk1 (v39 : BitVec 32) : Prop :=
  (∀ a, (k0_off2 v39) a + S512x128.size a ≤ S4096x128.size a) ∧
  (∀ a, (k0_off4 v39) a + S512x1.size a ≤ S4096x1.size a)
theorem k0_off2_inb : ∀ (v39 : BitVec 32) (k0_hw1 : k0_chk1 v39), ∀ a, (k0_off2 v39) a + S512x128.size a ≤ S4096x128.size a := fun v39 k0_hw1 => k0_hw1.1
theorem k0_off4_inb : ∀ (v39 : BitVec 32) (k0_hw1 : k0_chk1 v39), ∀ a, (k0_off4 v39) a + S512x1.size a ≤ S4096x1.size a := fun v39 k0_hw1 => k0_hw1.2

def k0_off5 (v41 : BitVec 32) : Fin 2 → Nat :=
  let c0_28 : Index := 0#32
  let c512_i32_27 : BitVec 32 := 512#32
  let v51 : BitVec 32 := Scalar.muli v41 c512_i32_27
  let v52 : Index := Scalar.indexCast v51
  ![0, v52.toNat]

def k0_chk2 (v41 : BitVec 32) : Prop :=
  (∀ a, (k0_off3 v41) a + S512x128.size a ≤ S4096x128.size a) ∧
  (∀ a, (k0_off5 v41) a + S1x512.size a ≤ S1x4096.size a)
theorem k0_off3_inb : ∀ (v41 : BitVec 32) (k0_hw2 : k0_chk2 v41), ∀ a, (k0_off3 v41) a + S512x128.size a ≤ S4096x128.size a := fun v41 k0_hw2 => k0_hw2.1
theorem k0_off5_inb : ∀ (v41 : BitVec 32) (k0_hw2 : k0_chk2 v41), ∀ a, (k0_off5 v41) a + S1x512.size a ≤ S1x4096.size a := fun v41 k0_hw2 => k0_hw2.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S128x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_call2_v0 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_cst_9 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Proof.Sweep.lean ====
/-
  The sweep over the 36 upper-triangular tiles as a function: what one tile does to the running maximum and to the
  two arrays of running row minima, and the state after `k` tiles. Stated for any float values over the kernel's own
  named payloads, so that the run of the loop (Loop.lean) and its value (SweepValue.lean) speak of one term.
-/
module

public import proofs.«01_k».proof.Proof.Gen.KernelIdeal.Skeleton
public import Idealize.ShloMosaic.Lib.VecWindow

@[expose] public section

set_option maxRecDepth 16384

noncomputable section

namespace Cert.Proof.Koleo

open Cert.KernelIdeal Cert.KernelIdeal.Gen
open Idealize.ShloMosaic

variable {F : FTy → Type} [FloatOps F]

/-- Tile `k`'s row block, the word the first table holds at `k`. -/
def iw (k : ℕ) : BitVec 32 := lit0 (Fin.ofNat 36 k)

/-- Tile `k`'s column block, the word the second table holds at `k`. -/
def jw (k : ℕ) : BitVec 32 := lit1 (Fin.ofNat 36 k)

/-- Every tile's row block lies inside the arrays. -/
theorem iw_chk (k : ℕ) : k0_chk1 (iw k) :=
  (by decide +kernel : ∀ j : Fin 36, k0_chk1 (lit0 j)) (Fin.ofNat 36 k)

/-- Every tile's column block lies inside the arrays. -/
theorem jw_chk (k : ℕ) : k0_chk2 (jw k) :=
  (by decide +kernel : ∀ j : Fin 36, k0_chk2 (lit1 j)) (Fin.ofNat 36 k)

/-- The embedding rows of tile `k`'s row block. -/
abbrev rowsI (x : S4096x128.Idx → F .f32) (k : ℕ) : S512x128.Idx → F .f32 :=
  VecWindow.window x (k0_off2 (iw k)) S512x128.size (k0_off2_inb (iw k) (iw_chk k))

/-- The embedding rows of tile `k`'s column block. -/
abbrev rowsJ (x : S4096x128.Idx → F .f32) (k : ℕ) : S512x128.Idx → F .f32 :=
  VecWindow.window x (k0_off3 (jw k)) S512x128.size (k0_off3_inb (jw k) (jw_chk k))

/-- The part of a column array that belongs to tile `k`'s row block. -/
abbrev colI (y : S4096x1.Idx → F .f32) (k : ℕ) : S512x1.Idx → F .f32 :=
  VecWindow.window y (k0_off4 (iw k)) S512x1.size (k0_off4_inb (iw k) (iw_chk k))

/-- The part of a row array that belongs to tile `k`'s column block. -/
abbrev rowJ (y : S1x4096.Idx → F .f32) (k : ℕ) : S1x512.Idx → F .f32 :=
  VecWindow.window y (k0_off5 (jw k)) S1x512.size (k0_off5_inb (jw k) (jw_chk k))

/-- What the loop carries: the maximum so far, the row minima by row block and the row minima by column block. -/
structure State (F : FTy → Type) where
  /-- The largest squared distance seen. -/
  top : F .f32
  /-- Row minima over the tiles whose row block holds the row. -/
  col : S4096x1.Idx → F .f32
  /-- Row minima over the tiles whose column block holds the row. -/
  row : S1x4096.Idx → F .f32

/-- One tile: the squared distances between two blocks of rows of `x`, folded into the maximum and the two minima. -/
def next (x : S4096x128.Idx → F .f32) (k : ℕ) (s : State F) : State F where
  top := k0_pay12 s.top (k0_pay2 (rowsI x k) (rowsJ x k) (colI (k0_pay7 x) k) (rowJ (k0_pay8 x) k))
  col := VecWindow.put s.col (k0_off4 (iw k)) S512x1.size
    (k0_pay5 (rowsI x k) (rowsJ x k) (colI (k0_pay7 x) k) (rowJ (k0_pay8 x) k) (colI s.col k))
  row := VecWindow.put s.row (k0_off5 (jw k)) S1x512.size
    (k0_pay11 (k0_pay4 (rowsI x k) (rowsJ x k) (colI (k0_pay7 x) k) (rowJ (k0_pay8 x) k)) (rowJ s.row k))

/-- The state before tile `k`. -/
def sweep (x : S4096x128.Idx → F .f32) : ℕ → State F
  | 0 => ⟨Scalar.ofBits .f32 0xFF800000#32, k0_pay9, k0_pay10⟩
  | k + 1 => next x k (sweep x k)

/-- What the kernel stores: the loss from the state after all tiles. -/
def loss (x : S4096x128.Idx → F .f32) : S1x1.Idx → F .f32 :=
  k0_pay1 (k0_pay13 (sweep x 36).top (sweep x 36).col (sweep x 36).row)

end Cert.Proof.Koleo

end
-- ==== Proof.Loop.lean ====
/-
  The kernel's loop run by its invariant: before tile `k` the two minima arrays read as `sweep x k` says and the
  carried maximum is its `top`. One tile at a symbolic `k` is run once; the tables' words are a hypothesis, which the
  launch discharges from the constants the host wrote.
-/
module

public import proofs.«01_k».proof.Proof.Sweep
public import Idealize.ShloMosaic.Lib.Exec
public import Idealize.ShloMosaic.Lib.Tactic
public import Idealize.ShloMosaic.Lib.Pipeline.Kit

@[expose] public section

set_option maxRecDepth 16384

noncomputable section

namespace Cert.Proof.Koleo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Memref `M` on core `c` held whole at `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

/-- Memref `M` on core `c` held whole at contents that read as `x`. -/
abbrev reads (c : Dev nD) {sp : Space} {S : Shape} {e : EltTy} (M : Memref sig .tc sp S e) (x : S.Idx → Elt F e) : sProp 𝕄 :=
  iprop(∃ f, pt c M f ∗ ⌜M.view.read (Elt F) f = x⌝)

/-- A buffer's contents under a name. -/
theorem named (c : Dev nD) {sp : Space} {S : Shape} {e : EltTy} (M : Memref sig .tc sp S e) (f : BufTy.Contents (Elt F) M.view.ty) :
    (pt c M f : sProp 𝕄) ⊢ iprop(∃ g, pt c M g ∗ ⌜g = f⌝) := by
  iintro H
  iexists f; isplitl [H]; · iexact H
  ipureintro; rfl

/-- The contents `X` of a table hold the words `w`, read as the loop reads them. -/
def Holds (M : Memref sig .tc .smem S36 .i32) (X : BufTy.Contents (Elt F) M.view.ty) (w : ℕ → BitVec 32) : Prop :=
  ∀ k : Fin k0_t1_loop.trips, M.view.readAt (Elt F) (Rect.unit (s := S36) (k0_off1 k) S1.size (k0_off1_inb k)).toLoadRect X
    (Shape.Idx.first (numel1_S1.symm ▸ Nat.one_pos)) = w k.val

section
variable (𝒱 : Variants) (c : Dev nD) (bd : Option 𝒱.V) (E : Set ℕ) (i : grid0.Coords)
  (arg1 : Memref sig .tc .smem S36 .i32) (harg1 : arg1.IsWhole) (arg2 : Memref sig .tc .smem S36 .i32) (harg2 : arg2.IsWhole)
  (arg3 : Memref sig .tc .vmem S4096x128 .f32) (harg3 : arg3.IsWhole) (arg4 : Memref sig .tc .vmem S1x1 .f32) (harg4 : arg4.IsWhole)
  (arg5 : Memref sig .tc .vmem S4096x1 .f32) (harg5 : arg5.IsWhole) (arg6 : Memref sig .tc .vmem S1x4096 .f32) (harg6 : arg6.IsWhole)
  (arg7 : Memref sig .tc .vmem S4096x1 .f32) (harg7 : arg7.IsWhole) (arg8 : Memref sig .tc .vmem S1x4096 .f32) (harg8 : arg8.IsWhole)

/-- ONE TILE: from the minima arrays at `f5`, `f6` the body at `k` yields the new maximum and leaves the arrays with
    the tile's blocks replaced. -/
theorem tile (X1 : BufTy.Contents (Elt F) arg1.view.ty) (X2 : BufTy.Contents (Elt F) arg2.view.ty) (X3 : BufTy.Contents (Elt F) arg3.view.ty)
    (X7 : BufTy.Contents (Elt F) arg7.view.ty) (X8 : BufTy.Contents (Elt F) arg8.view.ty)
    (h1 : Holds arg1 X1 iw) (h2 : Holds arg2 X2 jw)
    (h7 : arg7.view.read (Elt F) X7 = k0_pay7 (arg3.view.read (Elt F) X3)) (h8 : arg8.view.read (Elt F) X8 = k0_pay8 (arg3.view.read (Elt F) X3))
    (k : Fin k0_t1_loop.trips) (s : State F) (f5 : BufTy.Contents (Elt F) arg5.view.ty) (f6 : BufTy.Contents (Elt F) arg6.view.ty)
    (h5 : arg5.view.read (Elt F) f5 = s.col) (h6 : arg6.view.read (Elt F) f6 = s.row) :
    iprop(pt c arg1 X1 ∗ pt c arg2 X2 ∗ pt c arg3 X3 ∗ pt c arg7 X7 ∗ pt c arg8 X8 ∗ pt c arg5 f5 ∗ pt c arg6 f6)
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 k s.top)
          (fun y => iprop(pt c arg1 X1 ∗ pt c arg2 X2 ∗ pt c arg3 X3 ∗ pt c arg7 X7 ∗ pt c arg8 X8
            ∗ reads c arg5 (next (arg3.view.read (Elt F) X3) k.val s).col ∗ reads c arg6 (next (arg3.view.read (Elt F) X3) k.val s).row
            ∗ ⌜y = (next (arg3.view.read (Elt F) X3) k.val s).top⌝)) := by
  have hk : k.val < 36 := Nat.lt_of_lt_of_le k.isLt k0_t1_abs.2.1
  have hw1 := h1 k
  have hw2 := h2 k
  have k0_hw1 : k0_chk1 (arg1.view.readAt (Elt F) (Rect.unit (s := S36) (k0_off1 k) S1.size (k0_off1_inb k)).toLoadRect X1 (Shape.Idx.first (numel1_S1.symm ▸ Nat.one_pos))) := by
    rw [hw1]; exact iw_chk _
  have k0_hw2 : k0_chk2 (arg2.view.readAt (Elt F) (Rect.unit (s := S36) (k0_off1 k) S1.size (k0_off1_inb k)).toLoadRect X2 (Shape.Idx.first (numel1_S1.symm ▸ Nat.one_pos))) := by
    rw [hw2]; exact jw_chk _
  have rI := View.readAt_unit arg3.view X3 (k0_off2_inb _ k0_hw1) (congrArg k0_off2 hw1) (k0_off2_inb _ (iw_chk _))
  have rJ := View.readAt_unit arg3.view X3 (k0_off3_inb _ k0_hw2) (congrArg k0_off3 hw2) (k0_off3_inb _ (jw_chk _))
  have cI := View.readAt_unit arg7.view X7 (k0_off4_inb _ k0_hw1) (congrArg k0_off4 hw1) (k0_off4_inb _ (iw_chk _))
  have rj := View.readAt_unit arg8.view X8 (k0_off5_inb _ k0_hw2) (congrArg k0_off5 hw2) (k0_off5_inb _ (jw_chk _))
  have c5 := View.readAt_unit arg5.view f5 (k0_off4_inb _ k0_hw1) (congrArg k0_off4 hw1) (k0_off4_inb _ (iw_chk _))
  have r6 := View.readAt_unit arg6.view f6 (k0_off5_inb _ k0_hw2) (congrArg k0_off5 hw2) (k0_off5_inb _ (jw_chk _))
  rw [h5] at c5
  rw [h6] at r6
  rw [h7] at cI
  rw [h8] at rj
  unfold k0_t1_body
  iintro ⟨H1, H2, H3, H7, H8, H5, H6⟩
  sl_exec
  sl_step
  isplitl [H1]; · iexact H1
  isplitl [H2]; · iexact H2
  isplitl [H3]; · iexact H3
  isplitl [H7]; · iexact H7
  isplitl [H8]; · iexact H8
  isplitl [H5]
  · iexists _; isplitl [H5]; · iexact H5
    ipureintro
    refine (View.read_writes_cons_put arg5.view f5 _ _ [] (congrArg k0_off4 hw1)).trans ?_
    rw [View.writes_nil, h5]
    rfl
  isplitl [H6]
  · iexists _; isplitl [H6]; · iexact H6
    ipureintro
    refine (View.read_writes_cons_put arg6.view f6 _ _ [] (congrArg k0_off5 hw2)).trans ?_
    rw [View.writes_nil, h6]
    rfl
  ipureintro
  rfl

/-- THE INVARIANT before tile `k`, over an embedding that reads as `x`. -/
abbrev inv (X1 : BufTy.Contents (Elt F) arg1.view.ty) (X2 : BufTy.Contents (Elt F) arg2.view.ty) (X3 : BufTy.Contents (Elt F) arg3.view.ty)
    (X7 : BufTy.Contents (Elt F) arg7.view.ty) (X8 : BufTy.Contents (Elt F) arg8.view.ty) (k : ℕ) (acc : F .f32) : sProp 𝕄 :=
  iprop(pt c arg1 X1 ∗ pt c arg2 X2 ∗ pt c arg3 X3 ∗ pt c arg7 X7 ∗ pt c arg8 X8
    ∗ reads c arg5 (sweep (arg3.view.read (Elt F) X3) k).col ∗ reads c arg6 (sweep (arg3.view.read (Elt F) X3) k).row
    ∗ ⌜acc = (sweep (arg3.view.read (Elt F) X3) k).top⌝)

/-- One tile takes the invariant at `k` to the invariant at `k + 1`. -/
theorem inv_step (X1 : BufTy.Contents (Elt F) arg1.view.ty) (X2 : BufTy.Contents (Elt F) arg2.view.ty) (X3 : BufTy.Contents (Elt F) arg3.view.ty)
    (X7 : BufTy.Contents (Elt F) arg7.view.ty) (X8 : BufTy.Contents (Elt F) arg8.view.ty)
    (h1 : Holds arg1 X1 iw) (h2 : Holds arg2 X2 jw)
    (h7 : arg7.view.read (Elt F) X7 = k0_pay7 (arg3.view.read (Elt F) X3)) (h8 : arg8.view.read (Elt F) X8 = k0_pay8 (arg3.view.read (Elt F) X3))
    (k : Fin k0_t1_loop.trips) (acc : F .f32) :
    inv c arg1 arg2 arg3 arg5 arg6 arg7 arg8 X1 X2 X3 X7 X8 k.val acc
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 k acc)
          (inv c arg1 arg2 arg3 arg5 arg6 arg7 arg8 X1 X2 X3 X7 X8 (k.val + 1)) := by
  iintro ⟨H1, H2, H3, H7, H8, ⟨%f5, H5, %e5⟩, ⟨%f6, H6, %e6⟩, %ha⟩
  subst ha
  iapply (tile 𝒱 c bd E i arg1 harg1 arg2 harg2 arg3 harg3 arg4 harg4 arg5 harg5 arg6 harg6 arg7 harg7 arg8 harg8
    X1 X2 X3 X7 X8 h1 h2 h7 h8 k (sweep (arg3.view.read (Elt F) X3) k.val) f5 f6 e5 e6)
  isplitl [H1]; · iexact H1
  isplitl [H2]; · iexact H2
  isplitl [H3]; · iexact H3
  isplitl [H7]; · iexact H7
  isplitl [H8]; · iexact H8
  isplitl [H5]; · iexact H5
  iexact H6

/-- The loop has 36 tiles. -/
theorem trips_eq : k0_t1_loop.trips = 36 := by decide +kernel

/-- THE KERNEL: from the tables, the embedding and the five buffers it overwrites, it leaves the tables and the
    embedding as they were and the output reading as the loss of the embedding. -/
theorem kernelRun (X1 : BufTy.Contents (Elt F) arg1.view.ty) (X2 : BufTy.Contents (Elt F) arg2.view.ty) (X3 : BufTy.Contents (Elt F) arg3.view.ty)
    (f4 : BufTy.Contents (Elt F) arg4.view.ty)
    (f5 : BufTy.Contents (Elt F) arg5.view.ty) (f6 : BufTy.Contents (Elt F) arg6.view.ty)
    (f7 : BufTy.Contents (Elt F) arg7.view.ty) (f8 : BufTy.Contents (Elt F) arg8.view.ty)
    (h1 : Holds arg1 X1 iw) (h2 : Holds arg2 X2 jw) (Q : PUnit → sProp 𝕄) :
    iprop(pt c arg1 X1 ∗ pt c arg2 X2 ∗ pt c arg3 X3 ∗ pt c arg4 f4 ∗ pt c arg5 f5 ∗ pt c arg6 f6 ∗ pt c arg7 f7 ∗ pt c arg8 f8
        ∗ (iprop(pt c arg1 X1 ∗ pt c arg2 X2 ∗ pt c arg3 X3 ∗ reads c arg4 (loss (arg3.view.read (Elt F) X3))
            ∗ (∃ f, pt c arg5 f) ∗ (∃ f, pt c arg6 f) ∗ (∃ f, pt c arg7 f) ∗ ∃ f, pt c arg8 f) -∗ Q ⟨⟩))
      ⊢ wp frame (wpE (defs₀ (F := F)) 𝒱 (c : Thread nD τ) bd) E
          (cc0__koleo_kernel (F := F) i arg1 harg1 arg2 harg2 arg3 harg3 arg4 harg4 arg5 harg5 arg6 harg6 arg7 harg7 arg8 harg8) Q := by
  iintro ⟨H1, H2, H3, H4, H5, H6, H7, H8, Hk⟩
  rw [cc0__koleo_kernel_eq_skeleton]
  unfold cc0__koleo_kernel_skel
  rw [k0_part2_eq_skeleton]
  unfold k0_part2_skel
  simp only [bind_assoc, pure_bind]
  have e3 : View.readAt (Elt F) arg3.view (Rect.unit ![0, 0] S4096x128.size inb_S4096x128_S4096x128_0_0).toLoadRect X3
      = arg3.view.read (Elt F) X3 := View.readAt_full _ _ _
  sl_exec
  ihave H7 := (named c arg7 _) $$ H7
  ihave H8 := (named c arg8 _) $$ H8
  icases H7 with ⟨%g7, H7, %e7⟩
  icases H8 with ⟨%g8, H8, %e8⟩
  sl_for (inv c arg1 arg2 arg3 arg5 arg6 arg7 arg8 X1 X2 X3 g7 g8) $$ [H1 H2 H3 H5 H6 H7 H8]
  case region =>
    intro k acc
    refine inv_step 𝒱 c bd E i arg1 harg1 arg2 harg2 arg3 harg3 arg4 harg4 arg5 harg5 arg6 harg6 arg7 harg7 arg8 harg8
      X1 X2 X3 g7 g8 h1 h2 ?_ ?_ k acc
    · rw [e7]; exact View.read_writes_full _ _ _ _ _
    · rw [e8]; exact View.read_writes_full _ _ _ _ _
  · isplitl [H1]; · iexact H1
    isplitl [H2]; · iexact H2
    isplitl [H3]; · iexact H3
    isplitl [H7]; · iexact H7
    isplitl [H8]; · iexact H8
    isplitl [H5]
    · iexists _; isplitl [H5]; · iexact H5
      ipureintro; exact View.read_writes_full _ _ _ _ _
    isplitl [H6]
    · iexists _; isplitl [H6]; · iexact H6
      ipureintro; exact View.read_writes_full _ _ _ _ _
    ipureintro
    rfl
  iintro %acc ⟨H1, H2, H3, H7, H8, ⟨%g5, H5, %e5⟩, ⟨%g6, H6, %e6⟩, %ha⟩
  sl_exec
  sl_step
  iapply Hk
  isplitl [H1]; · iexact H1
  isplitl [H2]; · iexact H2
  isplitl [H3]; · iexact H3
  isplitl [H4]
  · iexists _; isplitl [H4]; · iexact H4
    ipureintro
    refine (View.read_writes_full _ _ _ _ _).trans ?_
    rw [show Scf.trips k0_t1_loop.lb k0_t1_loop.ub k0_t1_loop.st = 36 from trips_eq] at e5 e6 ha
    unfold loss
    rw [ha, View.readAt_full, View.readAt_full, e5, e6]
  isplitl [H5]; · iexists _; iexact H5
  isplitl [H6]; · iexists _; iexact H6
  isplitl [H7]; · iexists _; iexact H7
  iexists _; iexact H8

end

end Cert.Proof.Koleo

end
-- ==== Proof.Run.lean ====
/-
  The whole program run: two constant tables written by the host, the one region (no grid point but one, two
  prefetched tables, four scratch buffers), the result re-laid out as a scalar. Every weakly fair run from zero counters
  ends with the embedding as it was, the result at the loss of the embedding and every counter at zero.
-/
module

public import proofs.«01_k».proof.Proof.Loop
public import proofs.«01_k».proof.Proof.Gen.KernelIdeal.Launch
public import Idealize.ShloMosaic.Lib.Pipeline.Regions
public import Idealize.ShloMosaic.Lib.Pipeline.FrameTail
public import Idealize.ShloMosaic.Lib.Pipeline.ValueKit

@[expose] public section

set_option maxRecDepth 16384

noncomputable section

namespace Cert.Proof.Koleo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs unscopedBufs_held sub_ucRefs afterRegion)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Contents before and after the region -/

/-- Core `c`'s buffers at launch, -/
abbrev V₀ (c : Dev nD) : Valuation τ sig (Elt F) := StableHlo.launchContents m c
/-- and at the region's entry: the two tables are written. -/
abbrev V₁ (c : Dev nD) : Valuation τ sig (Elt F) := StableHlo.after hostOps0 (V₀ m c)

/-- The tables' contents: the two constants. -/
def tab : pre0.Contents (Elt F) := fun
  | 0 => fun i => lit0 (S36.rowMajor i)
  | 1 => fun i => lit1 (S36.rowMajor i)
  | ⟨_ + 2, h⟩ => absurd h (Nat.not_lt.2 (Nat.le_add_left _ _))

/-- The pipeline runs at the tables' contents. -/
abbrev adm : (p : Fin 1) → (pcfgs (F := F) p).Adm := fun _ => ⟨tab, trivial⟩

/-- The tables hold the constants when the region is entered. -/
theorem V₁_tab (c : Dev nD) (k : Fin 2) : V₁ m c (Proc.devRef .tc (pre0.ref k)) = tab (F := F) k := by
  fin_cases k
  · show StableHlo.after hostOps0 (V₀ m c) (Proc.devRef .tc main_c) = _
    after_results
    rfl
  · show StableHlo.after hostOps0 (V₀ m c) (Proc.devRef .tc main_c_0) = _
    after_results
    rfl

/-- The embedding is as launched when the region is entered. -/
theorem V₁_arg0 (c : Dev nD) : V₁ m c (Proc.devRef .tc main_arg0) = m ((c : Thread nD τ).loc main_arg0) := by
  show StableHlo.after hostOps0 (V₀ m c) (Proc.devRef .tc main_arg0) = _
  after_results

/-- The one element a table's load at tile `k` reads is element `k`, row-major. -/
theorem word_at : ∀ k : Fin k0_t1_loop.trips,
    (S36.rowMajor ((Rect.unit (s := S36) (k0_off1 k) S1.size (k0_off1_inb k)).emb (Shape.Idx.first (numel1_S1.symm ▸ Nat.one_pos)))).val
      = k.val % 36 := by decide +kernel

/-- The first table holds the words `iw`, -/
theorem holds_i : Holds (F := F) (Memref.whole main_c) (tab 0) iw := fun k => congrArg lit0 (Fin.ext (word_at k))

/-- the second the words `jw`. -/
theorem holds_j : Holds (F := F) (Memref.whole main_c_0) (tab 1) jw := fun k => congrArg lit1 (Fin.ext (word_at k))

/-! ## The pipeline's proof data -/

/-- What the fetch stages: the embedding's one block. -/
abbrev stg (c : Dev nD) : S4096x128.Idx → Elt F .f32 :=
  ((cfg0 (F := F) (adm 0)).win 0).blk t0_0 |>.view.read (Elt F) (V₁ m c (Proc.devRef .tc main_arg0))

/-- Between the region's ends: the tables at their contents and the scratch buffers at something. -/
abbrev Φc (c : Dev nD) : sProp 𝕄 :=
  iprop(Pipeline.prefHeld pre0 c (fun _ => fullShare) tab
    ∗ Pipeline.scopedRest (Ix := Unit) (Name := ℕ) (U := UR sig nD τ) (Lvl := ℕ) (Val := Elt F) spec0 c)

/-- The proof data on core `c`: after the body the input's buffer as fetched, the output's at the loss. -/
def dats (_ : Fin 1) (c : Dev nD) : Dat τ (Elt F) Unit ℕ (UR sig nD τ) ℕ (cfg0 (F := F) (adm 0)) c where
  A w := V₁ m c (Proc.devRef .tc (Pipeline.arrRef spec0 w))
  after w _ := match w with | ⟨0, _⟩ => stg m c | ⟨1, _⟩ => loss (stg m c) | ⟨_ + 2, h⟩ => absurd h (Nat.not_lt.2 (Nat.le_add_left _ _))
  Φ _ := Φc c
  q _ := fullShare
  owed _ := 0

theorem A_eq (c : Dev nD) (w : Fin 2) : (dats m 0 c).A w = V₁ m c (Proc.devRef .tc (Pipeline.arrRef spec0 w)) := by
  dsimp only [dats]

abbrev 𝒱₀ : Variants := Variants.none

/-- The input's buffer holds the block when the body runs. -/
theorem before_in (c : Dev nD) (d : S4096x128.Idx → Elt F .f32) : (dats m 0 c).before 0 t0_0 d = stg m c := by
  unfold Dat.before; rw [if_pos (by rfl)]; rfl

/-- The two tables held, one by one. -/
theorem tables_eq (c : Dev nD) :
    (Pipeline.prefHeld pre0 c (fun _ => fullShare) tab : sProp 𝕄)
      = iprop((((c : Thread nD τ).loc main_c) ↦{fullShare} (tab (F := F) 0 : Buf (Elt F) ((c : Thread nD τ).loc main_c)))
        ∗ (((c : Thread nD τ).loc main_c_0) ↦{fullShare} (tab (F := F) 1 : Buf (Elt F) ((c : Thread nD τ).loc main_c_0)))) := by
  unfold Pipeline.prefHeld
  exact bigSep_W0 _

/-- A whole buffer held through its memref is the buffer held. -/
theorem pt_whole (c : Dev nD) (b : Ref sig .tc) (f : Buf (Elt F) ((c : Thread nD τ).loc b)) :
    (pt c (Memref.whole b) f : sProp 𝕄) = (((c : Thread nD τ).loc b) ↦{fullShare} f) := by
  simp only [pt, Memref.view_whole, View.set_whole]

/-- The library's body obligation. -/
theorem body_obligation (c : Dev nD) : BodyObligation (dats m 0 c) (defs₀ (F := F)) 𝒱₀ () Set.univ := fun t => by
  obtain rfl := fin_N0 t
  rw [bigSep_W0, bigSep_W0]
  simp only [owns]
  rw [show (dats m 0 c).Φ t0_0.castSucc = Φc c from rfl, show (dats m 0 c).Φ t0_0.succ = Φc c from rfl]
  unfold Φc Dat.owesAt Pipeline.owesWithin; rw [scopedRest0_eq, tables_eq]
  simp only [← pt_whole]
  rw [show (dats m 0 c).owed t0_0.castSucc = 0 from rfl, show (dats m 0 c).owed t0_0.succ = 0 from rfl]
  iintro ⟨⟨⟨H1, H2⟩, ⟨%f5, H5⟩, ⟨%f6, H6⟩, ⟨%f7, H7⟩, ⟨%f8, H8⟩⟩, ⟨%W, %hW, HO⟩, ⟨%d0, %f0, %hf0, H0⟩, ⟨%d4, %f4, %hf4, H4⟩⟩
  rw [before_in] at hf0
  iapply (kernelRun 𝒱₀ c none Set.univ (grid0.coords t0_0) (Memref.whole main_c) (Memref.isWhole_whole _) (Memref.whole main_c_0) (Memref.isWhole_whole _)
    (stage0_0 ((cfg0 (F := F) (adm 0)).slots t0_0 0)) (hstage0_0 _) (stage0_1 ((cfg0 (F := F) (adm 0)).slots t0_0 1)) (hstage0_1 _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (tab 0) (tab 1) f0 f4 f5 f6 f7 f8 holds_i holds_j)
  rw [hf0]
  isplitl [H1]; · iexact H1
  isplitl [H2]; · iexact H2
  isplitl [H0]; · iexact H0
  isplitl [H4]; · iexact H4
  isplitl [H5]; · iexact H5
  isplitl [H6]; · iexact H6
  isplitl [H7]; · iexact H7
  isplitl [H8]; · iexact H8
  iintro ⟨H1, H2, H0, ⟨%g4, H4, %e4⟩, H5, H6, H7, H8⟩
  isplitl [H1 H2 H5 H6 H7 H8]
  · isplitl [H1 H2]
    · isplitl [H1]; · iexact H1
      iexact H2
    isplitl [H5]; · iexact H5
    isplitl [H6]; · iexact H6
    isplitl [H7]; · iexact H7
    iexact H8
  isplitl [HO]
  · iexists W; isplitr; · ipureintro; exact fun _ _ => Or.inl trivial
    iexact HO
  isplitl [H0]
  · iexists f0; isplitr; swap; · iexact H0
    ipureintro; exact hf0
  iexists g4; isplitr; swap; · iexact H4
  ipureintro; exact e4

/-! ## The launch -/

/-- No core owes another anything: no level is assigned. -/
abbrev L : GSem nD τ sig → Finset Unit := fun _ => ∅
abbrev lv : GSem nD τ sig → Unit → ℕ := fun _ _ => 0

/-- What rides beside the buffers: the core owes nothing. -/
abbrev R (c : Dev nD) : sProp 𝕄 := iprop(∃ W, owes (c : Thread nD τ) (0 : CellTallies nD τ sig Unit) W)

/-- Every buffer after the region. -/
abbrev V₂ (c : Dev nD) : Valuation τ sig (Elt F) := afterRegion (dats m 0 c) (V₁ m c)

/-- The host stretch before the region, -/
def seg0 : Pipeline.HostSeg (Name := ℕ) (U := UR sig nD τ) (pcfgs (F := F)) defs₀ 𝒱₀ L lv :=
  Pipeline.HostSeg.ofOps _ _ _ _ _ (ucRefs τ sig) hostOps0 (fun op h => sub_ucRefs op ((List.forall_iff_forall_mem.mp hostOps0_sub) op h))
    (by intro _ h; (repeat (cases h with | head => rfl | tail _ h => ?_)); exact nomatch h) (V₀ m) R

/-- and the one after it. -/
def seg1 : Pipeline.HostSeg (Name := ℕ) (U := UR sig nD τ) (pcfgs (F := F)) defs₀ 𝒱₀ L lv :=
  Pipeline.HostSeg.ofOps _ _ _ _ _ (ucRefs τ sig) hostOps1 (fun op h => sub_ucRefs op ((List.forall_iff_forall_mem.mp hostOps1_sub) op h))
    (by intro _ h; (repeat (cases h with | head => rfl | tail _ h => ?_)); exact nomatch h) (V₂ m) R

set_option backward.isDefEq.respectTransparency.types false in
/-- The region: entered with every unscoped buffer as the tables' writes left it, left with the windows' arrays at what
    the pipeline computes and every other buffer as it was. -/
def reg0 : Pipeline.RegionSeg (pcfgs (F := F)) adm (dats m) () defs₀ 𝒱₀ L lv 0 where
  win := (launch0 (F := F)).win.to₀
  block_pos := (launch0 (F := F)).block_pos
  stage_whole := (launch0 (F := F)).stage_whole
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (ucRefs τ sig) (V₁ m c) ∗ R c)
  post c := iprop(StableHlo.held (c : Thread nD τ) (ucRefs τ sig) (V₂ m c) ∗ R c)
  X c := iprop(emp)
  Y c := Pipeline.prefHeld pre0 c (fun _ => fullShare) tab
  Z c := Pipeline.unscopedRestP (Ix := Unit) (Name := ℕ) (U := UR sig nD τ) (Lvl := ℕ) pre0 spec0 c (fun b => V₁ m c (Proc.devRef .tc b))
  hentry c := by
    rw [Pipeline.ownSems0_none,
      show StableHlo.held (c : Thread nD τ) (ucRefs τ sig) (V₁ m c) = unscopedBufs c (fun b => V₁ m c (Proc.devRef .tc b)) from
        (unscopedBufs_held (Ix := Unit) (Name := ℕ) (U := UR sig nD τ) (Lvl := ℕ) c (V₁ m c)).symm]
    have hsplit := (Pipeline.arrays_of_unscopedBufs (pcfgs (F := F)) adm (dats m) (launch0 (F := F)).win (launch0 (F := F)).arr_whole c
      ((dats m 0 c).share_full fun _ => rfl) (fun b => V₁ m c (Proc.devRef .tc b)) (A_eq m c)).trans
        (sep_mono .rfl (Entails.of_eq (Pipeline.unscopedRest_split preFacts0 c _)))
    rw [show (fun k => V₁ m c (Proc.devRef .tc (pre0.ref k))) = tab (F := F) from funext (V₁_tab m c)] at hsplit
    iintro ⟨⟨Hub, HO⟩, -, -⟩
    ihave H := hsplit $$ Hub
    icases H with ⟨Ha, Ht, Hr⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Φc c from rfl]
    iintro ⟨-, Ht, Hr⟩
    isplitl [Ht] <;> iassumption
  hout c := by
    rw [Pipeline.ownSems0_none, show (dats m 0 c).Φ (Fin.last (cfg0 (F := F) (adm 0)).N) = Φc c from rfl]
    iintro ⟨Ht, Hr⟩
    isplitl [Ht]; · iexact Ht
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (dats m) ((dats m 0 c).share_full fun _ => rfl)
      (fun b => V₁ m c (Proc.devRef .tc b)) (fun b => V₂ m c (Proc.devRef .tc b)) ((dats m 0 c).arrAt · (cfg0 (F := F) (adm 0)).N)
      (fun w => (Pipeline.afterRegion_arr (dats m 0 c) (V₁ m c) winFacts0.arr_inj w).symm)
      (fun b hb => Pipeline.afterRegion_of_not_arr (dats m 0 c) (V₁ m c)
        fun w h => hb (h ▸ Finset.mem_image.mpr ⟨w, Finset.mem_univ _, rfl⟩))
    have hrest := Entails.of_eq (Pipeline.unscopedRest_split (Ix := Unit) (Name := ℕ) (U := UR sig nD τ) (Lvl := ℕ) preFacts0 c (fun b => V₁ m c (Proc.devRef .tc b))).symm
    rw [show (fun k => V₁ m c (Proc.devRef .tc (pre0.ref k))) = tab (F := F) from funext (V₁_tab m c)] at hrest
    rw [show StableHlo.held (c : Thread nD τ) (ucRefs τ sig) (V₂ m c) = unscopedBufs c (fun b => V₂ m c (Proc.devRef .tc b)) from
        (unscopedBufs_held (Ix := Unit) (Name := ℕ) (U := UR sig nD τ) (Lvl := ℕ) c (V₂ m c)).symm]
    iintro ⟨Ha, HO, Ht, Hr⟩
    imodintro
    isplitl [Ha Ht Hr]
    · iapply hjoin; isplitl [Ha]; · iexact Ha
      iapply hrest; isplitl [Ht] <;> iassumption
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

set_option backward.isDefEq.respectTransparency.types false in
/-- From any memory with zero counters every weakly fair run terminates, and in every final state each unscoped buffer holds
    what the host operations and the region computed, every counter at zero. -/
theorem run_main : θ_run defs (onTc (τ := τ) (main (F := F))) (s₀ m ρ) (fun r =>
    (∀ (c : Dev nD), ∀ b ∈ ucRefs τ sig, r.2.mem ((c : Thread nD τ).1, b) = StableHlo.after hostOps1 (V₂ m c) b) ∧ r.2.sem = fun _ => 0) :=
  Pipeline.θ_run_regions_kit_sems (pcfgs (F := F)) adm (dats m) () (cellOf_inj adm) emb₁ defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU _ : sProp 𝕄) ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m c) ∗ R c))
    (Tₙ := fun c => StableHlo.held (c : Thread nD τ) (ucRefs τ sig) (StableHlo.after hostOps1 (V₂ m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (V₀ m c)
          from unscopedBufs_held (Ix := Unit) (Name := ℕ) (U := UR sig nD τ) (Lvl := ℕ) c (V₀ m c)]
      iintro ⟨⟨Hh, -, HO, -, -, -⟩, -⟩
      imodintro
      isplitl [Hh]; · iexact Hh
      iexists ∅; iexact HO)
    (QY := fun c s => ∀ b ∈ ucRefs τ sig, s.mem ((c : Thread nD τ).1, b) = StableHlo.after hostOps1 (V₂ m c) b)
    (hfin := fun c s' => by
      unfold StableHlo.held
      iintro ⟨Hh, HSI⟩
      ihave Hr := (pointsTo_read_all (ucRefs τ sig) (fun b => ((c : Thread nD τ).1, b)) (StableHlo.after hostOps1 (V₂ m c)) s') $$ [Hh HSI]
      · isplitl [Hh] <;> iassumption
      imodintro; iexact Hr)
    (hQ := fun _ h hz => ⟨h, funext fun g => hz g (.inr (by revert g; decide))⟩)

/-- The window's block is the whole array: what is staged is the embedding. -/
theorem stg_eq (c : Dev nD) : stg m c = m ((c : Thread nD τ).loc main_arg0) := by
  rw [← V₁_arg0 m c]
  funext i
  refine congrArg (V₁ m c (Proc.devRef .tc main_arg0)) ?_
  funext a
  apply Fin.ext
  fin_cases a
  · show 0 * 4096 + 1 * (i 0).val = (i 0).val
    omega
  · show 0 * 128 + 1 * (i 1).val = (i 1).val
    omega

/-- The output's array after the region is the loss of the embedding. -/
theorem V₂_v0 (c : Dev nD) : V₂ m c (Proc.devRef .tc main_v0) = loss (F := F) (m ((c : Thread nD τ).loc main_arg0)) := by
  refine (Pipeline.afterRegion_arr (dats m 0 c) (V₁ m c) winFacts0.arr_inj 1).trans ?_
  refine (dats m 0 c).arrAt_eq_of_after_last 1 t0_0 ⟨rfl, fun t _ => fin_N0 t, fun a => ?_⟩ _ fun j => ?_
  · fin_cases a <;> exact ⟨rfl, rfl⟩
  show loss (stg m c) j = _
  rw [stg_eq]
  rfl

/-- The embedding's array after the region is as launched. -/
theorem V₂_arg0 (c : Dev nD) : V₂ m c (Proc.devRef .tc main_arg0) = m ((c : Thread nD τ).loc main_arg0) :=
  (Pipeline.afterRegion_arr (dats m 0 c) (V₁ m c) winFacts0.arr_inj 0).trans (((dats m 0 c).arrAt_in 0 rfl _).trans (V₁_arg0 m c))

/-- A 1×1 array has one index. -/
theorem one_index (i j : S1x1.Idx) : i = j :=
  funext fun | 0 => Subsingleton.elim (α := Fin 1) _ _ | 1 => Subsingleton.elim (α := Fin 1) _ _

/-- THE PROGRAM: the result is the loss of the embedding as a scalar, the embedding unchanged, every counter zero. -/
theorem run_value : θ_run defs (onTc (τ := τ) (main (F := F))) (s₀ m ρ) (fun r =>
    (∀ c : Dev nD, r.2.mem ((c : Thread nD τ).loc main_v1) = (fun _ => loss (F := F) (m ((c : Thread nD τ).loc main_arg0)) (Shape.Idx.first (by decide : 0 < S1x1.numel)))
      ∧ r.2.mem ((c : Thread nD τ).loc main_arg0) = m ((c : Thread nD τ).loc main_arg0)) ∧ r.2.sem = fun _ => 0) := by
  refine (θ_run _ _ _).mono (fun r h => ⟨fun c => ⟨?_, ?_⟩, h.2⟩) (run_main m ρ)
  · refine (h.1 c (Proc.devRef .tc main_v1) (Pipeline.devRef_mem_ucRefs rfl)).trans ?_
    after_results
    rw [V₂_v0]
    funext i
    exact congrArg (loss (F := F) (m ((c : Thread nD τ).loc main_arg0))) (one_index _ _)
  · refine (h.1 c (Proc.devRef .tc main_arg0) (Pipeline.devRef_mem_ucRefs rfl)).trans ?_
    after_results
    exact V₂_arg0 m c

end Cert.Proof.Koleo

end
-- ==== Proof.Transfer.lean ====
/-
  The kernel and its idealized form are one program at the machine's floats: the idealization replaced no operation,
  so the two printed programs' procedures agree, and a run of the second is a run of the first.
-/
module

public import proofs.«01_k».proof.Defs
public import proofs.«01_k».proof.Proof.Gen.Kernel
public import proofs.«01_k».proof.Proof.Gen.KernelIdeal

@[expose] public section

set_option maxRecDepth 65536
set_option maxHeartbeats 4000000

namespace Cert.Proof.Koleo

open Idealize.ShloMosaic Idealize.ShloMosaic.TcCoe

/-- The two programs' kernels are the same procedure. -/
theorem defs₀_eq [Cert.Kernel.Facts] [Cert.KernelIdeal.Facts] : @Cert.Kernel.defs₀ Bits _ _ = @Cert.KernelIdeal.defs₀ Bits _ _ := by
  unfold Cert.Kernel.defs₀ Cert.KernelIdeal.defs₀
  refine congrArg Defs.onTc (funext fun ℓ => funext fun x => ?_)
  obtain ⟨_ | n, h⟩ := ℓ
  · obtain ⟨t, s⟩ := x
    rfl
  · exact absurd h (Nat.not_lt.2 (Nat.le_add_left _ _))

/-- So are the procedures with the pipeline's own added. -/
theorem defs_eq [Cert.Kernel.Facts] [Cert.KernelIdeal.Facts] : @Cert.Kernel.defs Bits _ _ = @Cert.KernelIdeal.defs Bits _ _ := by
  unfold Cert.Kernel.defs Cert.KernelIdeal.defs
  rw [defs₀_eq]; rfl

/-- The frame of the idealized program at the machine's floats is the kernel's frame. -/
theorem frame_of_ideal [Cert.Kernel.Facts] [Cert.KernelIdeal.Facts]
    (h : ∀ (m : (ℓ : Loc Cert.KernelIdeal.nD Cert.KernelIdeal.τ Cert.KernelIdeal.sig) → Buf (Elt Bits) ℓ) (g : Dev Cert.KernelIdeal.nD → PrngReg),
      θ_run (Cert.KernelIdeal.defs (F := Bits)) (onTc (τ := Cert.KernelIdeal.τ) (Cert.KernelIdeal.main (F := Bits))) ⟨m, fun _ => 0, g⟩ (fun r =>
        (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0)) : Cert.quiescent_Kernel := fun m g _ => by
  rw [defs_eq]
  exact h m g

end Cert.Proof.Koleo
-- ==== Proof.Koleo.lean ====
/-
  The loss in extended reals, with no program in it: squared distances between rows, the distance that a row's nearest
  other row is at when non-positive squares count as absent, and what the reference makes of the same squares. The one
  theorem the two programs meet at is `rowMin_eq`: the reference's row minimum of distances, with the zeros replaced by
  the largest distance, is the root of the smaller of `nearest` and `farthest`.
-/
module

public import Idealize.ShloMosaic.PureOps.Ideal.Laws
public import Idealize.ShloMosaic.Lib.Pointwise

@[expose] public section

noncomputable section

namespace Cert.Proof.Koleo

open Idealize.ShloMosaic

/-! ## Constants -/

/-- The word of positive infinity reads as the top element. -/
theorem word_top : Ideal.ofBits .f32 0x7F800000#32 = ⊤ := by simp [Ideal.ofBits, Ideal.ieee]

/-- The word of negative infinity reads as the bottom element. -/
theorem word_bot : Ideal.ofBits .f32 0xFF800000#32 = ⊥ := by simp [Ideal.ofBits, Ideal.ieee]

/-- The word of zero reads as zero. -/
theorem word_zero : Ideal.ofBits .f32 0x00000000#32 = 0 := by simp [Ideal.ofBits, Ideal.ieee]

/-- The word of two reads as two. -/
theorem word_two : Ideal.ofBits .f32 0x40000000#32 = ((2 : ℝ) : EReal) := by
  simp [Ideal.ofBits, Ideal.ieee]
  rw [← EReal.coe_mul]
  norm_num

/-! ## Doubling -/

/-- A value added to itself is twice the value, at the infinities too. -/
theorem add_self_eq (a : EReal) : a + a = ((2 : ℝ) : EReal) * a := by
  induction a with
  | bot => rw [EReal.coe_mul_bot_of_pos (by norm_num)]; rfl
  | coe r => rw [← EReal.coe_add, ← EReal.coe_mul, two_mul]
  | top => rw [EReal.coe_mul_top_of_pos (by norm_num)]; rfl

/-- Doubling distributes over addition. -/
theorem two_mul_add (a b : EReal) : ((2 : ℝ) : EReal) * (a + b) = ((2 : ℝ) : EReal) * a + ((2 : ℝ) : EReal) * b :=
  EReal.left_distrib_of_nonneg_of_ne_top (by norm_num) (EReal.coe_ne_top 2) a b

/-- Doubling distributes over finite sums. -/
theorem two_mul_sum {n : ℕ} (f : Fin n → EReal) : ((2 : ℝ) : EReal) * ∑ k, f k = ∑ k, ((2 : ℝ) : EReal) * f k := by
  induction n with
  | zero => simp
  | succ n ih => rw [Fin.sum_univ_succ, Fin.sum_univ_succ, two_mul_add, ih]

/-- A product sum with the left factor doubled is twice the product sum. -/
theorem sum_doubled {n : ℕ} (f g : Fin n → EReal) :
    ∑ k, (f k + f k) * g k = ((2 : ℝ) : EReal) * ∑ k, f k * g k := by
  rw [two_mul_sum]
  exact Finset.sum_congr rfl fun k _ => by rw [add_self_eq, mul_assoc]

/-! ## Squared distances -/

/-- A row's squared length. -/
def sqLen (x : (⟨2, ![4096, 128]⟩ : Shape).Idx → EReal) (i : Fin 4096) : EReal := ∑ k : Fin 128, x (ix2 i k) * x (ix2 i k)

/-- The squared distance between two rows, expanded into lengths and the inner product. -/
def sqDist (x : (⟨2, ![4096, 128]⟩ : Shape).Idx → EReal) (i j : Fin 4096) : EReal :=
  sqLen x i + sqLen x j - ((2 : ℝ) : EReal) * ∑ k : Fin 128, x (ix2 i k) * x (ix2 j k)

/-- The squared distance is symmetric. -/
theorem sqDist_comm (x : (⟨2, ![4096, 128]⟩ : Shape).Idx → EReal) (i j : Fin 4096) : sqDist x i j = sqDist x j i := by
  unfold sqDist
  rw [add_comm (sqLen x i)]
  simp only [mul_comm (x (ix2 i _))]

/-- A non-positive square stands for no neighbour. -/
def masked (s : EReal) : EReal := if s ≤ 0 then ⊤ else s

/-- The least positive squared distance from row `i`, the top element if there is none. -/
def nearest (x : (⟨2, ![4096, 128]⟩ : Shape).Idx → EReal) (i : Fin 4096) : EReal := ⨅ j, masked (sqDist x i j)

/-- The largest squared distance, and no less than zero. -/
def farthest (x : (⟨2, ![4096, 128]⟩ : Shape).Idx → EReal) : EReal := max (⨆ p : Fin 4096 × Fin 4096, sqDist x p.1 p.2) 0

/-- No squared distance exceeds the largest. -/
theorem sqDist_le_farthest (x : (⟨2, ![4096, 128]⟩ : Shape).Idx → EReal) (i j : Fin 4096) : sqDist x i j ≤ farthest x :=
  (le_iSup (fun p : Fin 4096 × Fin 4096 => sqDist x p.1 p.2) (i, j)).trans (le_max_left _ _)

/-! ## The root -/

/-- The root is monotone. -/
theorem sqrt_mono : Monotone Ideal.sqrt := by
  intro a b h
  induction a with
  | bot => exact bot_le
  | top => rw [top_le_iff] at h; rw [h]
  | coe r =>
    induction b with
    | bot => exact absurd h (not_le.mpr (EReal.bot_lt_coe r))
    | top => exact le_top
    | coe s =>
      have h' : r ≤ s := EReal.coe_le_coe_iff.mp h
      show (if r < 0 then (⊥ : EReal) else (Real.sqrt r : EReal)) ≤ (if s < 0 then (⊥ : EReal) else (Real.sqrt s : EReal))
      split
      · exact bot_le
      · rw [if_neg (by linarith)]
        exact EReal.coe_le_coe_iff.mpr (Real.sqrt_le_sqrt h')

/-- The root of zero is zero. -/
theorem sqrt_zero : Ideal.sqrt 0 = 0 := by
  show (if (0 : ℝ) < 0 then (⊥ : EReal) else (Real.sqrt 0 : EReal)) = 0
  simp

/-- The root of a positive value is positive. -/
theorem sqrt_pos {a : EReal} (h : 0 < a) : 0 < Ideal.sqrt a := by
  induction a with
  | bot => exact absurd h (by simp)
  | top => exact EReal.zero_lt_top
  | coe r =>
    have h' : 0 < r := EReal.coe_pos.mp h
    show 0 < (if r < 0 then (⊥ : EReal) else (Real.sqrt r : EReal))
    rw [if_neg (by linarith)]
    exact EReal.coe_pos.mpr (Real.sqrt_pos.mpr h')

/-- The root of a finite supremum is the supremum of the roots. -/
theorem sqrt_iSup {ι : Type} [Finite ι] [Nonempty ι] (f : ι → EReal) : Ideal.sqrt (⨆ i, f i) = ⨆ i, Ideal.sqrt (f i) := by
  obtain ⟨i, hi⟩ := exists_eq_ciSup_of_finite (f := f)
  refine le_antisymm ?_ (iSup_le fun j => sqrt_mono (le_iSup f j))
  rw [← hi]
  exact le_iSup (fun i => Ideal.sqrt (f i)) i

/-- The root of a finite infimum is the infimum of the roots. -/
theorem sqrt_iInf {ι : Type} [Finite ι] [Nonempty ι] (f : ι → EReal) : Ideal.sqrt (⨅ i, f i) = ⨅ i, Ideal.sqrt (f i) := by
  obtain ⟨i, hi⟩ := exists_eq_ciInf_of_finite (f := f)
  refine le_antisymm (le_iInf fun j => sqrt_mono (iInf_le f j)) ?_
  rw [← hi]
  exact iInf_le (fun i => Ideal.sqrt (f i)) i

/-! ## The reference's distances -/

/-- The distance the reference makes of a square `s`: zero unless `s` is positive, and then the root, taken of a square
    that has been guarded against zero (`e` is what the guard puts there). -/
def dist (e s : EReal) : EReal := if max s 0 ≤ 0 then 0 else Ideal.sqrt (if max s 0 ≤ 0 then e else max s 0)

/-- The guards change nothing: the distance is the root of the square clamped at zero. -/
theorem dist_eq (e s : EReal) : dist e s = Ideal.sqrt (max s 0) := by
  unfold dist
  split
  · rename_i h
    rw [le_antisymm h (le_max_right _ _), sqrt_zero]
  · rfl

/-- A distance is zero exactly for a non-positive square. -/
theorem dist_eq_zero (e s : EReal) : dist e s = 0 ↔ s ≤ 0 := by
  rw [dist_eq]
  constructor
  · intro h
    by_contra hs
    have hs' : 0 < s := not_le.mp hs
    rw [max_eq_left hs'.le] at h
    exact (sqrt_pos hs').ne' h
  · intro h
    rw [max_eq_right h, sqrt_zero]

/-- The largest distance is the root of the largest square. -/
theorem iSup_dist (e : EReal) (x : (⟨2, ![4096, 128]⟩ : Shape).Idx → EReal) :
    ⨆ p : Fin 4096 × Fin 4096, dist e (sqDist x p.1 p.2) = Ideal.sqrt (farthest x) := by
  simp only [dist_eq]
  rw [← sqrt_iSup, farthest]
  exact congrArg Ideal.sqrt iSup_sup.symm

/-- The smaller of `nearest` and `farthest` as one infimum, `farthest` standing where a square is non-positive. -/
theorem min_nearest (x : (⟨2, ![4096, 128]⟩ : Shape).Idx → EReal) (i : Fin 4096) :
    min (nearest x i) (farthest x) = ⨅ j, if sqDist x i j ≤ 0 then farthest x else sqDist x i j := by
  refine le_antisymm (le_iInf fun j => ?_) (le_min (le_iInf fun j => ?_) ?_)
  · split
    · exact min_le_right _ _
    · rename_i h
      refine (min_le_left _ _).trans ((iInf_le _ j).trans ?_)
      rw [masked, if_neg h]
  · refine (iInf_le _ j).trans ?_
    rw [masked]
    split
    · exact le_top
    · exact le_rfl
  · refine (iInf_le _ i).trans ?_
    split
    · exact le_rfl
    · exact sqDist_le_farthest x i i

/-- The reference's row minimum: distances, with the zeros replaced by the largest distance. -/
theorem rowMin_eq (e : EReal) (x : (⟨2, ![4096, 128]⟩ : Shape).Idx → EReal) (i : Fin 4096) :
    (⨅ j, if dist e (sqDist x i j) = 0 then ⨆ p : Fin 4096 × Fin 4096, dist e (sqDist x p.1 p.2) else dist e (sqDist x i j))
      = Ideal.sqrt (min (nearest x i) (farthest x)) := by
  rw [min_nearest, sqrt_iInf, iSup_dist]
  refine iInf_congr fun j => ?_
  by_cases h : sqDist x i j ≤ 0
  · rw [if_pos ((dist_eq_zero e _).mpr h), if_pos h]
  · rw [if_neg (fun hd => h ((dist_eq_zero e _).mp hd)), if_neg h, dist_eq, max_eq_left (not_le.mp h).le]

/-! ## Folds as bounds -/

/-- A fold of minima from the top element is the infimum. -/
theorem fold_min {ι : Type} [Fintype ι] (f : ι → EReal) : Finset.fold min ⊤ f Finset.univ = ⨅ i, f i :=
  Finset.inf_univ_eq_iInf f

/-- A fold of maxima from the bottom element is the supremum. -/
theorem fold_max {ι : Type} [Fintype ι] (f : ι → EReal) : Finset.fold max ⊥ f Finset.univ = ⨆ i, f i :=
  Finset.sup_univ_eq_iSup f

/-! ## The loss -/

/-- The loss: a weight times the sum over the rows of the logarithm of the distance to the nearest row. -/
def value (x : (⟨2, ![4096, 128]⟩ : Shape).Idx → EReal) : EReal :=
  Ideal.ofBits .f32 0xB9800000#32 * ∑ i : Fin 4096, Ideal.log (Ideal.sqrt (min (nearest x i) (farthest x)))

end Cert.Proof.Koleo

end
-- ==== Proof.Tile.lean ====
/-
  The kernel's tiles in extended reals. Each of the kernel's named pure values read at an index, and with the windows
  the kernel takes of its arrays: tile `k` sees the squared distances between row block `blkI k` and row block `blkJ k`.
-/
module

public import proofs.«01_k».proof.Proof.Sweep
public import proofs.«01_k».proof.Proof.Koleo

@[expose] public section

set_option maxRecDepth 16384

noncomputable section

namespace Cert.Proof.Koleo

open Cert.KernelIdeal Cert.KernelIdeal.Gen
open Idealize.ShloMosaic

/-! ## Blocks of rows -/

/-- Row `p` of block `a`. -/
def rowOf (a : Fin 8) (p : Fin 512) : Fin 4096 := ⟨a.val * 512 + p.val, by omega⟩

/-- Every row is in a block. -/
theorem exists_rowOf (i : Fin 4096) : ∃ a p, i = rowOf a p :=
  ⟨⟨i.val / 512, by omega⟩, ⟨i.val % 512, by omega⟩, Fin.ext (by simp only [rowOf]; omega)⟩

/-- Block and place are read off the row. -/
theorem rowOf_inj {a b : Fin 8} {p q : Fin 512} : rowOf a p = rowOf b q ↔ a = b ∧ p = q := by
  simp only [rowOf, Fin.ext_iff]
  omega

/-- Tile `k`'s row block. -/
def blkI (k : ℕ) : Fin 8 := Fin.ofNat 8 (iw k).toNat

/-- Tile `k`'s column block. -/
def blkJ (k : ℕ) : Fin 8 := Fin.ofNat 8 (jw k).toNat

/-- Where tile `k` reads its embedding rows. -/
theorem off2_eq (k : ℕ) : k0_off2 (iw k) = ![(blkI k).val * 512, 0] :=
  (by decide +kernel : ∀ t : Fin 36, k0_off2 (lit0 t) = ![(Fin.ofNat 8 (lit0 t).toNat).val * 512, 0]) (Fin.ofNat 36 k)

/-- Where tile `k` reads its embedding columns. -/
theorem off3_eq (k : ℕ) : k0_off3 (jw k) = ![(blkJ k).val * 512, 0] :=
  (by decide +kernel : ∀ t : Fin 36, k0_off3 (lit1 t) = ![(Fin.ofNat 8 (lit1 t).toNat).val * 512, 0]) (Fin.ofNat 36 k)

/-- Where tile `k` works in a column array. -/
theorem off4_eq (k : ℕ) : k0_off4 (iw k) = ![(blkI k).val * 512, 0] :=
  (by decide +kernel : ∀ t : Fin 36, k0_off4 (lit0 t) = ![(Fin.ofNat 8 (lit0 t).toNat).val * 512, 0]) (Fin.ofNat 36 k)

/-- Where tile `k` works in a row array. -/
theorem off5_eq (k : ℕ) : k0_off5 (jw k) = ![0, (blkJ k).val * 512] :=
  (by decide +kernel : ∀ t : Fin 36, k0_off5 (lit1 t) = ![0, (Fin.ofNat 8 (lit1 t).toNat).val * 512]) (Fin.ofNat 36 k)

/-- The tiles cover every pair of blocks in ascending order. -/
theorem covers : ∀ a b : Fin 8, a ≤ b → ∃ t : Fin 36, blkI t.val = a ∧ blkJ t.val = b := by decide +kernel

/-! ## Windows -/

/-- A window of an array with the rows along the first axis, at block `a`. -/
theorem window_rows {n : ℕ} (x : (⟨2, ![4096, n]⟩ : Shape).Idx → EReal) (a : Fin 8) {off : Fin 2 → ℕ} (h : off = ![a.val * 512, 0])
    (inb : ∀ c, off c + ![512, n] c ≤ (⟨2, ![4096, n]⟩ : Shape).size c) (p : Fin 512) (l : Fin n) :
    VecWindow.window x off ![512, n] inb (ix2 p l) = x (ix2 (rowOf a p) l) := by
  subst h
  refine congrArg x (funext fun c => Fin.ext ?_)
  fin_cases c
  · show a.val * 512 + 1 * p.val = a.val * 512 + p.val
    omega
  · show 0 + 1 * l.val = l.val
    omega

/-- A window of a row array at block `a`. -/
theorem window_cols (x : (⟨2, ![1, 4096]⟩ : Shape).Idx → EReal) (a : Fin 8) {off : Fin 2 → ℕ} (h : off = ![0, a.val * 512])
    (inb : ∀ c, off c + ![1, 512] c ≤ (⟨2, ![1, 4096]⟩ : Shape).size c) (q : Fin 512) :
    VecWindow.window x off ![1, 512] inb (ix2 0 q) = x (ix2 0 (rowOf a q)) := by
  subst h
  refine congrArg x (funext fun c => Fin.ext ?_)
  fin_cases c
  · rfl
  · show a.val * 512 + 1 * q.val = a.val * 512 + q.val
    omega

/-- Putting block `a` of a column array: the rows of the block get the payload, the others stay. -/
theorem put_rows (x : (⟨2, ![4096, 1]⟩ : Shape).Idx → EReal) (a b : Fin 8) {off : Fin 2 → ℕ} (h : off = ![a.val * 512, 0])
    (w : (⟨2, ![512, 1]⟩ : Shape).Idx → EReal) (p : Fin 512) :
    VecWindow.put x off ![512, 1] w (ix2 (rowOf b p) 0) = if a = b then w (ix2 p 0) else x (ix2 (rowOf b p) 0) := by
  subst h
  unfold VecWindow.put
  by_cases e : a = b
  · subst e
    rw [if_pos rfl, dif_pos (by intro c; fin_cases c <;> simp [rowOf])]
    refine congrArg w (funext fun c => Fin.ext ?_)
    fin_cases c
    · show a.val * 512 + p.val - a.val * 512 = p.val
      omega
    · rfl
  · rw [if_neg e, dif_neg]
    intro hc
    have h0 : a.val * 512 ≤ b.val * 512 + p.val ∧ b.val * 512 + p.val < a.val * 512 + 512 := hc 0
    exact e (Fin.ext (by omega))

/-- Putting block `a` of a row array: the places of the block get the payload, the others stay. -/
theorem put_cols (x : (⟨2, ![1, 4096]⟩ : Shape).Idx → EReal) (a b : Fin 8) {off : Fin 2 → ℕ} (h : off = ![0, a.val * 512])
    (w : (⟨2, ![1, 512]⟩ : Shape).Idx → EReal) (q : Fin 512) :
    VecWindow.put x off ![1, 512] w (ix2 0 (rowOf b q)) = if a = b then w (ix2 0 q) else x (ix2 0 (rowOf b q)) := by
  subst h
  unfold VecWindow.put
  by_cases e : a = b
  · subst e
    rw [if_pos rfl, dif_pos (by intro c; fin_cases c <;> simp [rowOf])]
    refine congrArg w (funext fun c => Fin.ext ?_)
    fin_cases c
    · rfl
    · show a.val * 512 + q.val - a.val * 512 = q.val
      omega
  · rw [if_neg e, dif_neg]
    intro hc
    have h0 : a.val * 512 ≤ b.val * 512 + q.val ∧ b.val * 512 + q.val < a.val * 512 + 512 := hc 1
    exact e (Fin.ext (by omega))

/-! ## The squared distances of a tile -/

/-- The squared lengths, kept as a column. -/
theorem pay7_apply (x : Vec Idealize.ShloMosaic.Ideal S4096x128 .f32) (i : Fin 4096) : k0_pay7 x (ix2 i 0) = sqLen x i := by
  pointwise [k0_pay7, k0_pay6]
  rfl

/-- The squared lengths, kept as a row. -/
theorem pay8_apply (x : Vec Idealize.ShloMosaic.Ideal S4096x128 .f32) (i : Fin 4096) : k0_pay8 x (ix2 0 i) = sqLen x i := by
  pointwise [k0_pay8, k0_pay6]
  rfl

/-- The embedding rows of tile `k`'s row block, in extended reals. -/
abbrev tI (x : Vec Idealize.ShloMosaic.Ideal S4096x128 .f32) (k : ℕ) : Vec Idealize.ShloMosaic.Ideal S512x128 .f32 :=
  rowsI (F := Idealize.ShloMosaic.Ideal) x k

/-- The embedding rows of tile `k`'s column block, in extended reals. -/
abbrev tJ (x : Vec Idealize.ShloMosaic.Ideal S4096x128 .f32) (k : ℕ) : Vec Idealize.ShloMosaic.Ideal S512x128 .f32 :=
  rowsJ (F := Idealize.ShloMosaic.Ideal) x k

/-- The squared lengths of tile `k`'s row block. -/
abbrev lenI (x : Vec Idealize.ShloMosaic.Ideal S4096x128 .f32) (k : ℕ) : Vec Idealize.ShloMosaic.Ideal S512x1 .f32 :=
  colI (F := Idealize.ShloMosaic.Ideal) (k0_pay7 x) k

/-- The squared lengths of tile `k`'s column block. -/
abbrev lenJ (x : Vec Idealize.ShloMosaic.Ideal S4096x128 .f32) (k : ℕ) : Vec Idealize.ShloMosaic.Ideal S1x512 .f32 :=
  rowJ (F := Idealize.ShloMosaic.Ideal) (k0_pay8 x) k

/-- The squared distances of tile `k`, as the kernel computes them. -/
abbrev tileSq (x : Vec Idealize.ShloMosaic.Ideal S4096x128 .f32) (k : ℕ) : FVec Idealize.ShloMosaic.Ideal S512x512 .f32 :=
  k0_pay2 (tI x k) (tJ x k) (lenI x k) (lenJ x k)

/-- They are the squared distances between the two blocks' rows: doubling one factor of each product doubles the sum. -/
theorem tileSq_apply (x : Vec Idealize.ShloMosaic.Ideal S4096x128 .f32) (k : ℕ) (p q : Fin 512) :
    tileSq x k (ix2 p q) = sqDist x (rowOf (blkI k) p) (rowOf (blkJ k) q) := by
  have hI (l : Fin 128) : tI x k (ix2 p l) = x (ix2 (rowOf (blkI k) p) l) := window_rows x _ (off2_eq k) _ p l
  have hJ (l : Fin 128) : tJ x k (ix2 q l) = x (ix2 (rowOf (blkJ k) q) l) := window_rows x _ (off3_eq k) _ q l
  have hc : lenI x k (ix2 p 0) = sqLen x (rowOf (blkI k) p) :=
    (window_rows (k0_pay7 x) _ (off4_eq k) _ p 0).trans (pay7_apply x _)
  have hr : lenJ x k (ix2 0 q) = sqLen x (rowOf (blkJ k) q) :=
    (window_cols (k0_pay8 x) _ (off5_eq k) _ q).trans (pay8_apply x _)
  pointwise [tileSq, k0_pay2]
  rw [hc, hr, sqDist, sum_doubled]
  simp only [hI, hJ]

/-- Non-positive squares masked out of a tile. -/
theorem pay3_apply (x : Vec Idealize.ShloMosaic.Ideal S4096x128 .f32) (k : ℕ) (p q : Fin 512) :
    k0_pay3 (tI x k) (tJ x k) (lenI x k) (lenJ x k) (ix2 p q)
      = masked (sqDist x (rowOf (blkI k) p) (rowOf (blkJ k) q)) := by
  rw [← tileSq_apply, masked]
  pointwise [k0_pay3]
  rw [word_top]

/-- The minima down a tile's columns. -/
theorem pay4_apply (x : Vec Idealize.ShloMosaic.Ideal S4096x128 .f32) (k : ℕ) (q : Fin 512) :
    k0_pay4 (tI x k) (tJ x k) (lenI x k) (lenJ x k) (ix2 0 q)
      = ⨅ p, masked (sqDist x (rowOf (blkI k) p) (rowOf (blkJ k) q)) := by
  pointwise [k0_pay4]
  rw [word_top, fold_min]
  exact iInf_congr fun p => pay3_apply x k p q

/-- The minima along a tile's rows, joined to the minima so far. -/
theorem pay5_apply (x : Vec Idealize.ShloMosaic.Ideal S4096x128 .f32) (k : ℕ) (v : Vec Idealize.ShloMosaic.Ideal S512x1 .f32) (p : Fin 512) :
    k0_pay5 (tI x k) (tJ x k) (lenI x k) (lenJ x k) v (ix2 p 0)
      = min (v (ix2 p 0)) (⨅ q, masked (sqDist x (rowOf (blkI k) p) (rowOf (blkJ k) q))) := by
  pointwise [k0_pay5]
  rw [word_top, fold_min]
  exact congrArg (min _) (iInf_congr fun q => pay3_apply x k p q)

/-- The minima of one more tile joined to those of a row array. -/
theorem pay11_apply (u v : Vec Idealize.ShloMosaic.Ideal S1x512 .f32) (q : Fin 512) :
    k0_pay11 u v (ix2 0 q) = min (v (ix2 0 q)) (u (ix2 0 q)) := by
  pointwise [k0_pay11]

/-- The maximum of one more tile joined to the maximum so far. -/
theorem pay12_apply (g : EReal) (x : Vec Idealize.ShloMosaic.Ideal S4096x128 .f32) (k : ℕ) :
    k0_pay12 (F := Idealize.ShloMosaic.Ideal) g (tileSq x k)
      = max g (⨆ p : Fin 512 × Fin 512, sqDist x (rowOf (blkI k) p.1) (rowOf (blkJ k) p.2)) := by
  generalize hv : tileSq x k = v
  pointwise [k0_pay12]
  rw [word_bot, fold_max]
  exact congrArg (max _) (iSup_congr fun p => by rw [← hv]; exact tileSq_apply x k p.1 p.2)

end Cert.Proof.Koleo

end
-- ==== Proof.SweepValue.lean ====
/-
  The sweep's value in extended reals. After `k` tiles the maximum is above, and the running minima are below, exactly
  the squared distances of the tiles so far; the 36 tiles reach every pair of rows in one order or the other, and the
  squared distance is symmetric, so the state after all of them gives each row's `nearest` and the `farthest`. The loss
  the kernel stores is then `value` of Koleo.lean.
-/
module

public import proofs.«01_k».proof.Proof.Tile

@[expose] public section

set_option maxRecDepth 16384

noncomputable section

namespace Cert.Proof.Koleo

open Cert.KernelIdeal Cert.KernelIdeal.Gen
open Idealize.ShloMosaic

/-- The sweep at the extended reals. -/
abbrev swept (x : Vec Idealize.ShloMosaic.Ideal S4096x128 .f32) (k : ℕ) : State Idealize.ShloMosaic.Ideal := sweep x k

/-! ## One tile -/

/-- One tile's effect on the maximum. -/
theorem top_succ (x : Vec Idealize.ShloMosaic.Ideal S4096x128 .f32) (k : ℕ) :
    (swept x (k + 1)).top
      = max (swept x k).top (⨆ p : Fin 512 × Fin 512, sqDist x (rowOf (blkI k) p.1) (rowOf (blkJ k) p.2)) :=
  pay12_apply (swept x k).top x k

/-- One tile's effect on the minima by row block. -/
theorem col_succ (x : Vec Idealize.ShloMosaic.Ideal S4096x128 .f32) (k : ℕ) (a : Fin 8) (p : Fin 512) :
    (swept x (k + 1)).col (ix2 (rowOf a p) 0)
      = if blkI k = a then min ((swept x k).col (ix2 (rowOf a p) 0)) (⨅ q, masked (sqDist x (rowOf a p) (rowOf (blkJ k) q)))
        else (swept x k).col (ix2 (rowOf a p) 0) := by
  refine (put_rows (swept x k).col (blkI k) a (off4_eq k) _ p).trans ?_
  by_cases h : blkI k = a
  · rw [if_pos h, if_pos h]
    refine (pay5_apply x k _ p).trans ?_
    rw [h]
    refine congrArg (min · _) ?_
    refine (window_rows (swept x k).col _ (off4_eq k) _ p 0).trans ?_
    rw [h]
  · rw [if_neg h, if_neg h]

/-- One tile's effect on the minima by column block. -/
theorem row_succ (x : Vec Idealize.ShloMosaic.Ideal S4096x128 .f32) (k : ℕ) (b : Fin 8) (q : Fin 512) :
    (swept x (k + 1)).row (ix2 0 (rowOf b q))
      = if blkJ k = b then min ((swept x k).row (ix2 0 (rowOf b q))) (⨅ p, masked (sqDist x (rowOf (blkI k) p) (rowOf b q)))
        else (swept x k).row (ix2 0 (rowOf b q)) := by
  refine (put_cols (swept x k).row (blkJ k) b (off5_eq k) _ q).trans ?_
  by_cases h : blkJ k = b
  · rw [if_pos h, if_pos h]
    refine (pay11_apply _ _ q).trans (congrArg₂ min ?_ ?_)
    · refine (window_cols (swept x k).row _ (off5_eq k) _ q).trans ?_
      rw [h]
    · refine (pay4_apply x k q).trans ?_
      rw [h]
  · rw [if_neg h, if_neg h]

/-! ## The first `k` tiles -/

/-- A condition on the numbers below `k + 1` is the condition below `k` and the condition at `k`. -/
theorem forall_lt_succ (P : ℕ → Prop) (k : ℕ) : (∀ t < k + 1, P t) ↔ (∀ t < k, P t) ∧ P k := by
  simp only [Nat.lt_succ_iff_lt_or_eq, or_imp, forall_and, forall_eq]

/-- The upper bounds of the maximum after `k` tiles are the upper bounds of the tiles' squared distances. -/
theorem top_le (x : Vec Idealize.ShloMosaic.Ideal S4096x128 .f32) (c : EReal) (k : ℕ) :
    (swept x k).top ≤ c ↔ ∀ t < k, ∀ p q, sqDist x (rowOf (blkI t) p) (rowOf (blkJ t) q) ≤ c := by
  induction k with
  | zero =>
    refine iff_of_true ?_ fun t h => absurd h (Nat.not_lt_zero t)
    exact (le_of_eq word_bot).trans bot_le
  | succ k ih =>
    rw [forall_lt_succ, top_succ, max_le_iff, ih, iSup_le_iff, Prod.forall]

/-- The lower bounds of a row's minimum by row block, after `k` tiles. -/
theorem le_col (x : Vec Idealize.ShloMosaic.Ideal S4096x128 .f32) (c : EReal) (a : Fin 8) (p : Fin 512) (k : ℕ) :
    c ≤ (swept x k).col (ix2 (rowOf a p) 0)
      ↔ ∀ t < k, blkI t = a → ∀ q, c ≤ masked (sqDist x (rowOf a p) (rowOf (blkJ t) q)) := by
  induction k with
  | zero =>
    refine iff_of_true ?_ fun t h => absurd h (Nat.not_lt_zero t)
    have h0 : (swept x 0).col (ix2 (rowOf a p) 0) = ⊤ := by
      show k0_pay9 (F := Idealize.ShloMosaic.Ideal) (ix2 (rowOf a p) 0) = ⊤
      pointwise [k0_pay9]
      exact word_top
    rw [h0]
    exact le_top
  | succ k ih =>
    rw [forall_lt_succ, col_succ, ← ih]
    by_cases h : blkI k = a
    · simp only [h, if_true, le_min_iff, le_iInf_iff, forall_true_left]
    · simp only [h, if_false, false_imp_iff, and_true]

/-- The lower bounds of a row's minimum by column block, after `k` tiles. -/
theorem le_row (x : Vec Idealize.ShloMosaic.Ideal S4096x128 .f32) (c : EReal) (b : Fin 8) (q : Fin 512) (k : ℕ) :
    c ≤ (swept x k).row (ix2 0 (rowOf b q))
      ↔ ∀ t < k, blkJ t = b → ∀ p, c ≤ masked (sqDist x (rowOf (blkI t) p) (rowOf b q)) := by
  induction k with
  | zero =>
    refine iff_of_true ?_ fun t h => absurd h (Nat.not_lt_zero t)
    have h0 : (swept x 0).row (ix2 0 (rowOf b q)) = ⊤ := by
      show k0_pay10 (F := Idealize.ShloMosaic.Ideal) (ix2 0 (rowOf b q)) = ⊤
      pointwise [k0_pay10]
      exact word_top
    rw [h0]
    exact le_top
  | succ k ih =>
    rw [forall_lt_succ, row_succ, ← ih]
    by_cases h : blkJ k = b
    · simp only [h, if_true, le_min_iff, le_iInf_iff, forall_true_left]
    · simp only [h, if_false, false_imp_iff, and_true]

/-! ## All tiles -/

/-- After all tiles the two minima of a row together are its `nearest`. -/
theorem min_col_row (x : Vec Idealize.ShloMosaic.Ideal S4096x128 .f32) (i : Fin 4096) :
    min ((swept x 36).col (ix2 i 0)) ((swept x 36).row (ix2 0 i)) = nearest x i := by
  obtain ⟨a, p, rfl⟩ := exists_rowOf i
  refine eq_of_forall_le_iff fun c => ?_
  rw [le_min_iff, le_col, le_row, nearest, le_iInf_iff]
  constructor
  · rintro ⟨hc, hr⟩ j
    obtain ⟨b, q, rfl⟩ := exists_rowOf j
    rcases le_total a b with h | h
    · obtain ⟨t, h1, h2⟩ := covers a b h
      have := hc t.val t.isLt h1 q
      rwa [h2] at this
    · obtain ⟨t, h1, h2⟩ := covers b a h
      have := hr t.val t.isLt h2 q
      rwa [h1, sqDist_comm] at this
  · intro h
    exact ⟨fun t _ _ q => h _, fun t _ _ q => by rw [sqDist_comm]; exact h _⟩

/-- After all tiles the maximum, clamped at zero, is the `farthest`. -/
theorem max_top (x : Vec Idealize.ShloMosaic.Ideal S4096x128 .f32) : max (swept x 36).top 0 = farthest x := by
  refine congrArg (max · 0) (eq_of_forall_ge_iff fun c => ?_)
  rw [top_le, iSup_le_iff]
  constructor
  · rintro h ⟨i, j⟩
    obtain ⟨a, p, rfl⟩ := exists_rowOf i
    obtain ⟨b, q, rfl⟩ := exists_rowOf j
    rcases le_total a b with hab | hab
    · obtain ⟨t, h1, h2⟩ := covers a b hab
      have := h t.val t.isLt p q
      rwa [h1, h2] at this
    · obtain ⟨t, h1, h2⟩ := covers b a hab
      have := h t.val t.isLt q p
      rwa [h1, h2, sqDist_comm] at this
  · intro h t _ p q
    exact h (_, _)

/-! ## The loss -/

/-- A row's logarithm, from any state. -/
theorem pay13_apply (g : EReal) (u : Vec Idealize.ShloMosaic.Ideal S4096x1 .f32) (v : Vec Idealize.ShloMosaic.Ideal S1x4096 .f32)
    (a : Fin 8) (p : Fin 512) :
    k0_pay13 (F := Idealize.ShloMosaic.Ideal) g u v (ix3 0 a p)
      = Ideal.log (Ideal.sqrt (min (min (u (ix2 (rowOf a p) 0)) (v (ix2 0 (rowOf a p)))) (max g 0))) := by
  pointwise [k0_pay13]
  rfl

/-- The stored loss is the weight times the sum of a block-shaped array. -/
theorem pay1_apply (u : FVec Idealize.ShloMosaic.Ideal S1x8x512 .f32) :
    k0_pay1 (F := Idealize.ShloMosaic.Ideal) u (ix2 0 0)
      = Ideal.ofBits .f32 0xB9800000#32 * ∑ a : Fin 8, ∑ p : Fin 512, u (ix3 0 a p) := by
  pointwise [k0_pay1]

/-- A sum over the rows, block by block. -/
theorem sum_rows (f : Fin 4096 → EReal) : ∑ i, f i = ∑ a : Fin 8, ∑ p : Fin 512, f (rowOf a p) := by
  rw [← Fintype.sum_prod_type']
  refine (Equiv.sum_comp (finProdFinEquiv (m := 8) (n := 512)) f).symm.trans (Finset.sum_congr rfl fun r _ => congrArg f (Fin.ext ?_))
  show r.2.val + 512 * r.1.val = r.1.val * 512 + r.2.val
  omega

/-- The loss the kernel stores. -/
theorem loss_value (x : Vec Idealize.ShloMosaic.Ideal S4096x128 .f32) :
    loss (F := Idealize.ShloMosaic.Ideal) x (ix2 0 0) = value x := by
  refine (pay1_apply _).trans ?_
  rw [value, sum_rows]
  refine congrArg (_ * ·) (Finset.sum_congr rfl fun a _ => Finset.sum_congr rfl fun p _ => ?_)
  refine (pay13_apply _ _ _ a p).trans ?_
  rw [min_col_row, max_top]

end Cert.Proof.Koleo

end
-- ==== Proof.RefValue.lean ====
/-
  The reference's result in extended reals: its operations read at an index, down to `value` of Koleo.lean.
-/
module

public import proofs.«01_k».proof.Proof.Gen.ReferenceIdeal.Read
public import proofs.«01_k».proof.Proof.Koleo

@[expose] public section

set_option maxRecDepth 16384

noncomputable section

namespace Cert.Proof.Koleo

open Cert.ReferenceIdeal Cert.ReferenceIdeal.Gen Cert.ReferenceIdeal.Read
open Idealize.ShloMosaic

/-- The reference's squared distances. -/
theorem ref_sqDist (x : Vec Idealize.ShloMosaic.Ideal S4096x128 .f32) (i j : Fin 4096) :
    val_main_v11 (F := Idealize.ShloMosaic.Ideal) x (ix2 i j) = sqDist x i j := by
  pointwise [val_main_v11, val_main_v10, val_main_v9, val_main_cst_0, val_main_v8, val_main_v7, val_main_v6, val_main_v5,
    val_main_v4, val_main_v3, val_main_v2, val_main_v1, val_main_v0, val_main_cst]
  rw [word_two]
  rfl

/-- The reference's distances. -/
theorem ref_dist (x : Vec Idealize.ShloMosaic.Ideal S4096x128 .f32) (i j : Fin 4096) :
    val_main_v18 (F := Idealize.ShloMosaic.Ideal) x (ix2 i j) = dist 1 (sqDist x i j) := by
  rw [← ref_sqDist, dist]
  pointwise [val_main_v18, val_main_v17, val_main_v16, val_main_v15, val_main_v14, val_main_v13, val_main_v12,
    val_main_cst_1, val_main_cst_2, val_main_cst_3, val_main_cst_4, val_main_call0_v0, val_main_call0_v1, val_main_call1_v0,
    val_main_call1_v1]
  simp only [id, constant, Ideal.ofBits_def, word_zero, Ideal.ofBits_one_f32]

/-- The reference's distances with the zeros replaced by the largest. -/
theorem ref_replaced (x : Vec Idealize.ShloMosaic.Ideal S4096x128 .f32) (i j : Fin 4096) :
    val_main_v22 (F := Idealize.ShloMosaic.Ideal) x (ix2 i j)
      = if dist 1 (sqDist x i j) = 0
        then ⨆ p : Fin 4096 × Fin 4096, dist 1 (sqDist x p.1 p.2)
        else dist 1 (sqDist x i j) := by
  pointwise [val_main_v22, val_main_v21, val_main_v20, val_main_v19, val_main_cst_5, val_main_cst_6, val_main_call2_v0]
  rw [word_bot, fold_max]
  simp only [ref_dist]

/-- The reference's row minima. -/
theorem ref_rowMin (x : Vec Idealize.ShloMosaic.Ideal S4096x128 .f32) (i : Fin 4096) :
    val_main_v23 (F := Idealize.ShloMosaic.Ideal) x (ix1 i) = Ideal.sqrt (min (nearest x i) (farthest x)) := by
  pointwise [val_main_v23, val_main_cst_7]
  rw [word_top, fold_min]
  simp only [ref_replaced]
  exact rowMin_eq _ x i

/-- The logarithm of a row minimum. -/
theorem ref_log (x : Vec Idealize.ShloMosaic.Ideal S4096x128 .f32) (i : Fin 4096) :
    val_main_v24 (F := Idealize.ShloMosaic.Ideal) x (ix1 i) = Ideal.log (Ideal.sqrt (min (nearest x i) (farthest x))) := by
  rw [val_main_v24_apply, ref_rowMin]
  rfl

/-- The initial value of the reference's sum. -/
theorem ref_init (o : S_.Idx) : val_main_cst_8 (F := Idealize.ShloMosaic.Ideal) o = (0 : EReal) :=
  (val_main_cst_8_apply o).trans word_zero

/-- The reference's sum over the rows. -/
theorem ref_sum (x : Vec Idealize.ShloMosaic.Ideal S4096x128 .f32) (o : S_.Idx) :
    val_main_v25 (F := Idealize.ShloMosaic.Ideal) x o
      = ∑ i : Fin 4096, Ideal.log (Ideal.sqrt (min (nearest x i) (farthest x))) := by
  rw [val_main_v25_apply, ref_init, zero_add]
  generalize hy : val_main_v24 (F := Idealize.ShloMosaic.Ideal) x = y
  refine (sum_idx1 (n0 := 4096) y).trans (Finset.sum_congr rfl fun i _ => ?_)
  rw [← hy, ref_log]

/-- The reference's result. -/
theorem ref_value (x : Vec Idealize.ShloMosaic.Ideal S4096x128 .f32) (o : S_.Idx) :
    val_main_v26 (F := Idealize.ShloMosaic.Ideal) x o = value x := by
  rw [val_main_v26_apply, ref_sum, value]
  rfl

end Cert.Proof.Koleo

end
-- ==== Proof.lean ====
/-
  The proof of `Cert.Claim`: the kernel and its idealized form run and leave their argument and every counter as they
  were; so does the reference; the idealization replaced nothing; and at the extended reals the kernel's one result is
  the reference's.
-/
module

public import proofs.«01_k».proof.Defs
public import proofs.«01_k».proof.Proof.Run
public import proofs.«01_k».proof.Proof.Transfer
public import proofs.«01_k».proof.Proof.SweepValue
public import proofs.«01_k».proof.Proof.RefValue
public import proofs.«01_k».proof.Proof.Gen.ReferenceIdeal.Run
public import proofs.«01_k».proof.Proof.Gen.ReferenceIdeal.Read
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's frame. -/
theorem frame_kernel : Cert.quiescent_Kernel :=
  Koleo.frame_of_ideal fun m g => (θ_run _ _ _).mono (fun r h => ⟨fun c => (h.1 c).2, h.2⟩) (Koleo.run_value m g)

/-- The idealized kernel's frame. -/
theorem frame_kernelIdeal : Cert.quiescent_KernelIdeal := fun m g _ =>
  (θ_run _ _ _).mono (fun r h => ⟨fun c => (h.1 c).2, h.2⟩) (Koleo.run_value m g)

/-- The reference's frame. -/
theorem frame_referenceIdeal : Cert.quiescent_ReferenceIdeal := fun m g _ =>
  (θ_run _ _ _).mono (fun r h => ⟨fun c => (h c).2, Idealize.ShloMosaic.sem_eq_zero_of_no_sems (by decide) r.2⟩)
    (Cert.ReferenceIdeal.Value.run m g)

/-- The one stored word of the kernel's loss, under the index the run names it by. -/
theorem loss_first (x : Vec Ideal Cert.KernelIdeal.S4096x128 .f32) :
    Koleo.loss (F := Ideal) x (Shape.Idx.first (by decide : 0 < Cert.KernelIdeal.S1x1.numel)) = Koleo.value x :=
  (congrArg (Koleo.loss (F := Ideal) x) (Koleo.one_index _ _)).trans (Koleo.loss_value x)

/-- The kernel's result and the reference's are both the loss `value` of the argument. -/
theorem algebraic : Cert.algebraic_KernelIdeal_ReferenceIdeal := fun m g m' g' _ hm =>
  ⟨fun c _ => Koleo.value (m ((c.tc : Thread Cert.KernelIdeal.nD Cert.KernelIdeal.τ).loc Cert.KernelIdeal.main_arg0)),
    (θ_run _ _ _).mono (fun r h c => ⟨(h.1 c).1.trans (funext fun _ => loss_first _), (h.1 c).2⟩) (Koleo.run_value m g),
    (θ_run _ _ _).mono (fun r h c => ⟨(h c).1.trans ((Cert.ReferenceIdeal.Read.val_main_v26_eq m' c).trans
      (funext fun o => (Koleo.ref_value _ o).trans (congrArg Koleo.value (hm c)))), (h c).2⟩)
      (Cert.ReferenceIdeal.Value.run m' g')⟩

/-- Everything claimed. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
